-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3072 : Shape := ⟨3, ![1, 4096, 3072]⟩
abbrev S1x4096x24 : Shape := ⟨3, ![1, 4096, 24]⟩
abbrev S3072x768 : Shape := ⟨2, ![3072, 768]⟩
abbrev S24x6 : Shape := ⟨2, ![24, 6]⟩
abbrev S4096x3072 : Shape := ⟨2, ![4096, 3072]⟩
abbrev S4096x24 : Shape := ⟨2, ![4096, 24]⟩
abbrev S4096x768 : Shape := ⟨2, ![4096, 768]⟩
abbrev S8x4x128 : Shape := ⟨3, ![8, 4, 128]⟩
abbrev S512x3072 : Shape := ⟨2, ![512, 3072]⟩
abbrev S512x24 : Shape := ⟨2, ![512, 24]⟩
abbrev S512x768 : Shape := ⟨2, ![512, 768]⟩
abbrev S1x4x128 : Shape := ⟨3, ![1, 4, 128]⟩
abbrev S1x1 : Shape := ⟨2, ![1, 1]⟩
abbrev S128x128 : Shape := ⟨2, ![128, 128]⟩
abbrev S512x1 : Shape := ⟨2, ![512, 1]⟩
abbrev S512x128 : Shape := ⟨2, ![512, 128]⟩
abbrev S512 : Shape := ⟨1, ![512]⟩
abbrev S512x256 : Shape := ⟨2, ![512, 256]⟩
abbrev S128x1 : Shape := ⟨2, ![128, 1]⟩
abbrev S128 : Shape := ⟨1, ![128]⟩
abbrev S1x1x128 : Shape := ⟨3, ![1, 1, 128]⟩

abbrev nBuf : Space → Nat
  | .hbm => 8
  | .vmem => 10
  | .smem => 1
  | _ => 0

abbrev bufTy : (tb : Table) → Fin (tcTables nBuf tb) → BufTy
  | .hbm, ⟨0, _⟩ => ⟨S1x4096x3072, .fp8e4m3⟩
  | .hbm, ⟨1, _⟩ => ⟨S1x4096x24, .f32⟩
  | .hbm, ⟨2, _⟩ => ⟨S3072x768, .fp8e4m3⟩
  | .hbm, ⟨3, _⟩ => ⟨S24x6, .f32⟩
  | .hbm, ⟨4, _⟩ => ⟨S4096x3072, .fp8e4m3⟩
  | .hbm, ⟨5, _⟩ => ⟨S4096x24, .f32⟩
  | .hbm, ⟨6, _⟩ => ⟨S4096x768, .fp8e4m3⟩
  | .hbm, ⟨7, _⟩ => ⟨S8x4x128, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S512x24, .f32⟩
  | .local _ .vmem, ⟨3, _⟩ => ⟨S512x24, .f32⟩
  | .local _ .vmem, ⟨4, _⟩ => ⟨S3072x768, .fp8e4m3⟩
  | .local _ .vmem, ⟨5, _⟩ => ⟨S512x768, .fp8e4m3⟩
  | .local _ .vmem, ⟨6, _⟩ => ⟨S512x768, .fp8e4m3⟩
  | .local _ .vmem, ⟨7, _⟩ => ⟨S1x4x128, .f32⟩
  | .local _ .vmem, ⟨8, _⟩ => ⟨S1x4x128, .f32⟩
  | .local _ .vmem, ⟨9, _⟩ => ⟨S3072x768, .bf16⟩
  | .local _ .smem, ⟨0, _⟩ => ⟨S24x6, .f32⟩
  | _, _ => ⟨S1x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S24x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x4096x3072 : Shape := ⟨3, ![1, 4096, 3072]⟩
abbrev S1x4096x24 : Shape := ⟨3, ![1, 4096, 24]⟩
abbrev S3072x768 : Shape := ⟨2, ![3072, 768]⟩
abbrev S24x6 : Shape := ⟨2, ![24, 6]⟩
abbrev S4096x768 : Shape := ⟨2, ![4096, 768]⟩
abbrev S8x4x128 : Shape := ⟨3, ![8, 4, 128]⟩
abbrev S1x4096x24x128 : Shape := ⟨4, ![1, 4096, 24, 128]⟩
abbrev S1x4096x24x1 : Shape := ⟨4, ![1, 4096, 24, 1]⟩
abbrev S24x128x6x128 : Shape := ⟨4, ![24, 128, 6, 128]⟩
abbrev S24x1x6x1 : Shape := ⟨4, ![24, 1, 6, 1]⟩
abbrev S1x4096x768 : Shape := ⟨3, ![1, 4096, 768]⟩
abbrev S1x4096 : Shape := ⟨2, ![1, 4096]⟩
abbrev S1x4096x1 : Shape := ⟨3, ![1, 4096, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x3072, .fp8e4m3⟩
  | .hbm, ⟨1, _⟩ => ⟨S1x4096x24, .f32⟩
  | .hbm, ⟨2, _⟩ => ⟨S3072x768, .fp8e4m3⟩
  | .hbm, ⟨3, _⟩ => ⟨S24x6, .f32⟩
  | .hbm, ⟨4, _⟩ => ⟨S4096x768, .fp8e4m3⟩
  | .hbm, ⟨5, _⟩ => ⟨S8x4x128, .f32⟩
  | .local _ .vmem, ⟨0, _⟩ => ⟨S1x4096x3072, .fp8e4m3⟩
  | .local _ .vmem, ⟨1, _⟩ => ⟨S1x4096x24, .f32⟩
  | .local _ .vmem, ⟨2, _⟩ => ⟨S3072x768, .fp8e4m3⟩
  | .local _ .vmem, ⟨3, _⟩ => ⟨S24x6, .f32⟩
  | .local _ .vmem, ⟨4, _⟩ => ⟨S4096x768, .fp8e4m3⟩
  | .local _ .vmem, ⟨5, _⟩ => ⟨S8x4x128, .f32⟩
  | _, _ => ⟨S1x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x4096x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Lhs.lean ====
/- The left operand of a tile's product: 24 scaled blocks of 128 columns side by side. At an index it is the code there times the
   scale of the code's row and column block. -/
module

public import proofs.«01_k».proof.Proof.Gen.KernelIdeal.Skeleton
public import Idealize.ShloMosaic.Lib.Pipeline.Value
public import Idealize.ShloMosaic.Lib.Pointwise

@[expose] public section

set_option maxRecDepth 8192

noncomputable section

namespace Cert.KernelIdeal.Tile

open Idealize.ShloMosaic Idealize.ShloMosaic.Pointwise Cert.KernelIdeal Cert.KernelIdeal.Gen

/-- Column block `n` of the codes lies within the tile. -/
theorem inb_codes (n : Fin 24) : ∀ a, (![0, 128 * n.val] : Fin 2 → Nat) a + S512x128.size a ≤ S512x3072.size a := by
  have := n.isLt
  intro a
  match a with
  | ⟨0, _⟩ => show 0 + 512 ≤ 512; omega
  | ⟨1, _⟩ => show 128 * n.val + 128 ≤ 3072; omega

/-- Column `n` of the scales lies within the tile. -/
theorem inb_scales (n : Fin 24) : ∀ a, (![0, n.val] : Fin 2 → Nat) a + S512x1.size a ≤ S512x24.size a := by
  have := n.isLt
  intro a
  match a with
  | ⟨0, _⟩ => show 0 + 512 ≤ 512; omega
  | ⟨1, _⟩ => show n.val + 1 ≤ 24; omega

/-- Scaled block `n`: the codes' column block times the scales' column, widened. -/
def xblock (x0 : Vec Ideal S512x3072 .fp8e4m3) (x1 : Vec Ideal S512x24 .f32) (n : Fin 24) : FVec Ideal S512x128 .bf16 :=
  k0_pay177 (F := Ideal) (View.ld (Val := Elt Ideal) x1 (Rect.unit (s := S512x24) ![0, n.val] S512x1.size (inb_scales n)))
    (View.ld (Val := Elt Ideal) x0 (Rect.unit (s := S512x3072) ![0, 128 * n.val] S512x128.size (inb_codes n)))

/-- The 24 scaled blocks side by side. -/
def lhs (x0 : Vec Ideal S512x3072 .fp8e4m3) (x1 : Vec Ideal S512x24 .f32) : FVec Ideal S512x3072 .bf16 :=
  concatenate S512x3072 1 (List.ofFn fun n : Fin 24 => ⟨S512x128, xblock x0 x1 n⟩) concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3072_d1

/-- A scaled block at an index. -/
theorem xblock_apply (x0 : Vec Ideal S512x3072 .fp8e4m3) (x1 : Vec Ideal S512x24 .f32) (n : Fin 24) (i : Fin 512) (q : Fin 128) :
    xblock x0 x1 n (ix2 i q) = x0 (ix2 i ⟨128 * n.val + q.val, by omega⟩) * x1 (ix2 i n) := by
  pointwise [xblock, k0_pay177]

/-- The left operand at an index. -/
theorem lhs_apply (x0 : Vec Ideal S512x3072 .fp8e4m3) (x1 : Vec Ideal S512x24 .f32) (i : Fin 512) (k : Fin 3072) :
    lhs x0 x1 (ix2 i k) = x0 (ix2 i k) * x1 (ix2 i ⟨k.val / 128, by omega⟩) := by
  refine (concatenate_ofFn_apply (t := S512x3072) (s₁ := S512x128) 1 (fun n => xblock x0 x1 n) _ rfl 128 rfl (ix2 i k)
    ⟨k.val / 128, by omega⟩ rfl (ix2 i ⟨k.val % 128, by omega⟩) rfl ?_).trans ?_
  · intro b hb
    match b with
    | ⟨0, _⟩ => rfl
    | ⟨1, _⟩ => exact absurd rfl hb
  · rw [xblock_apply]
    congr 3
    exact Fin.ext (Nat.div_add_mod k.val 128)

end Cert.KernelIdeal.Tile

end
-- ==== Proof.Weights.lean ====
/- The right operand of a tile's product: 144 scaled blocks of 128 x 128 that the first grid point stores, each at its own place.
   At an index it is the code there times the scale of the code's block. -/
module

public import proofs.«01_k».proof.Proof.Gen.KernelIdeal.Skeleton
public import Idealize.ShloMosaic.Lib.Pipeline.Value
public import Idealize.ShloMosaic.Lib.Pointwise

@[expose] public section

set_option maxRecDepth 8192

noncomputable section

namespace Cert.KernelIdeal.Tile

open Idealize.ShloMosaic Idealize.ShloMosaic.Pointwise Cert.KernelIdeal Cert.KernelIdeal.Gen

/-- Block row `g`, block column `j` lies within the weights. -/
theorem inb_block (g : Fin 24) (j : Fin 6) :
    ∀ a, (![128 * g.val, 128 * j.val] : Fin 2 → Nat) a + S128x128.size a ≤ S3072x768.size a := by
  have := g.isLt
  have := j.isLt
  intro a
  match a with
  | ⟨0, _⟩ => show 128 * g.val + 128 ≤ 3072; omega
  | ⟨1, _⟩ => show 128 * j.val + 128 ≤ 768; omega

/-- Entry `(g, j)` lies within the weights' scales. -/
theorem inb_entry (g : Fin 24) (j : Fin 6) : ∀ a, (![g.val, j.val] : Fin 2 → Nat) a + S1x1.size a ≤ S24x6.size a := by
  have := g.isLt
  have := j.isLt
  intro a
  match a with
  | ⟨0, _⟩ => show g.val + 1 ≤ 24; omega
  | ⟨1, _⟩ => show j.val + 1 ≤ 6; omega

/-- Scaled block `(g, j)`: the block's codes times its scale, widened. -/
def wblock (x2 : Vec Ideal S3072x768 .fp8e4m3) (x3 : Vec Ideal S24x6 .f32) (g : Fin 24) (j : Fin 6) : FVec Ideal S128x128 .bf16 :=
  k0_pay3 (F := Ideal) (View.ld (Val := Elt Ideal) x3 (Rect.unit (s := S24x6) ![g.val, j.val] S1x1.size (inb_entry g j)) (Shape.Idx.first (s := S1x1) (numel1_S1x1.symm ▸ Nat.one_pos)))
    (View.ld (Val := Elt Ideal) x2 (Rect.unit (s := S3072x768) ![128 * g.val, 128 * j.val] S128x128.size (inb_block g j)))

/-- The store of scaled block `(g, j)`. -/
def wpiece (x2 : Vec Ideal S3072x768 .fp8e4m3) (x3 : Vec Ideal S24x6 .f32) (g : Fin 24) (j : Fin 6) :
    View.Piece (Elt Ideal) S3072x768 .bf16 :=
  ⟨Rect.unit (s := S3072x768) ![128 * g.val, 128 * j.val] S128x128.size (inb_block g j), wblock x2 x3 g j⟩

/-- The stores, the last made first: block rows down, and block columns down within a block row. -/
def wpieces (x2 : Vec Ideal S3072x768 .fp8e4m3) (x3 : Vec Ideal S24x6 .f32) : List (View.Piece (Elt Ideal) S3072x768 .bf16) :=
  List.ofFn fun m : Fin 144 => wpiece x2 x3 ⟨(143 - m.val) / 6, by omega⟩ ⟨(143 - m.val) % 6, by omega⟩

/-- The widened weights: each code times its block's scale. -/
def weights (x2 : Vec Ideal S3072x768 .fp8e4m3) (x3 : Vec Ideal S24x6 .f32) : FVec Ideal S3072x768 .bf16 :=
  fun y => x2 y * x3 (ix2 ⟨(y 0).val / 128, by have : (y 0).val < 3072 := (y 0).isLt; omega⟩
    ⟨(y 1).val / 128, by have : (y 1).val < 768 := (y 1).isLt; omega⟩)

/-- A scaled block at an index. -/
theorem wblock_apply (x2 : Vec Ideal S3072x768 .fp8e4m3) (x3 : Vec Ideal S24x6 .f32) (g : Fin 24) (j : Fin 6) (p q : Fin 128) :
    wblock x2 x3 g j (ix2 p q)
      = x2 (ix2 ⟨128 * g.val + p.val, by omega⟩ ⟨128 * j.val + q.val, by omega⟩) * x3 (ix2 g j) := by
  have h : Shape.Idx.first (s := S1x1) (numel1_S1x1.symm ▸ Nat.one_pos) = ix2 (n0 := 1) (n1 := 1) 0 0 := by
    funext a
    match a with
    | ⟨0, _⟩ => rfl
    | ⟨1, _⟩ => rfl
  unfold wblock
  rw [h]
  pointwise [k0_pay3]

/-- Each store's payload is the widened weights at the store's rectangle. -/
theorem wpiece_weights (x2 : Vec Ideal S3072x768 .fp8e4m3) (x3 : Vec Ideal S24x6 .f32) (g : Fin 24) (j : Fin 6) (x) :
    (wpiece x2 x3 g j).2 x = weights x2 x3 ((wpiece x2 x3 g j).1.idx x) := by
  have h : x = ix2 (n0 := 128) (n1 := 128) (x 0) (x 1) := eq_ix2 x
  have h0 : (x 0).val < 128 := (x 0).isLt
  have h1 : (x 1).val < 128 := (x 1).isLt
  have he : (wpiece x2 x3 g j).1.idx x
      = ix2 (n0 := 3072) (n1 := 768) ⟨128 * g.val + (x 0).val, by omega⟩ ⟨128 * j.val + (x 1).val, by omega⟩ := by
    funext a
    match a with
    | ⟨0, _⟩ => exact Fin.ext (show 128 * g.val + 1 * (x 0).val = _ by rw [Nat.one_mul]; rfl)
    | ⟨1, _⟩ => exact Fin.ext (show 128 * j.val + 1 * (x 1).val = _ by rw [Nat.one_mul]; rfl)
  rw [he]
  refine (congrArg (wblock x2 x3 g j) h).trans ((wblock_apply x2 x3 g j (x 0) (x 1)).trans ?_)
  unfold weights
  congr 3
  · exact Fin.ext (show g.val = (128 * g.val + (x 0).val) / 128 by omega)
  · exact Fin.ext (show j.val = (128 * j.val + (x 1).val) / 128 by omega)

/-- What the stores leave is the widened weights wherever one of them covers. -/
theorem canon_wpieces (x2 : Vec Ideal S3072x768 .fp8e4m3) (x3 : Vec Ideal S24x6 .f32) (y : S3072x768.Idx)
    (hy : ∃ pc ∈ wpieces x2 x3, y ∈ pc.1.set) : View.canon (wpieces x2 x3) y = weights x2 x3 y := by
  refine View.canon_apply_of_pieces (weights x2 x3) (wpieces x2 x3) ?_ y hy
  intro pc hpc x
  obtain ⟨m, rfl⟩ := List.mem_ofFn.mp hpc
  exact wpiece_weights x2 x3 _ _ x

end Cert.KernelIdeal.Tile

end
-- ==== Proof.Exponent.lean ====
/- The quantiser's exponent, on one number. A row's scale is a power of two read off `v`, the row's greatest value over 448.
   The kernel counts the float exponent fields whose least float is at or below `v` and builds the scale and its inverse as
   floats of a computed exponent field; the reference takes the floor of the base-two logarithm. The two agree at every
   extended real. -/
module

public import Idealize.ShloMosaic.PureOps.Ideal

@[expose] public section

noncomputable section

namespace Cert.SqRelu

open Idealize.ShloMosaic

/-- The number the float with exponent field `b` and no fraction bits denotes: zero, a power of two, or infinity. -/
def fieldValue (b : ℕ) : EReal :=
  if b = 0 then 0 else if b = 255 then ⊤ else (((2 : ℝ) ^ ((b : ℤ) - 127) : ℝ) : EReal)

/-- The exponent field the kernel counts: how many of the fields 1 to 255 have their least float at or below `v`. -/
def fieldOf (v : EReal) : ℕ := (Finset.univ.filter fun k : Fin 256 => 0 < k.val ∧ fieldValue k.val ≤ v).card

/-- The exponent field of the scale for a counted field: one more, capped at infinity's, and one's own at the two ends. -/
def scaleField (E : ℕ) : ℕ := if E = 0 ∨ E = 255 then 127 else min 255 (E + 1)

/-- The exponent field of the scale's inverse. -/
def invField (E : ℕ) : ℕ := if E = 0 ∨ E = 255 then 127 else 253 - E

/-- The reference's exponent: `e` with `2 ^ (e - 1) ≤ v < 2 ^ e`, and zero below the least normal float and at infinity. -/
def refExponent (v : EReal) : EReal :=
  if v < (((2 : ℝ) ^ (-126 : ℤ) : ℝ) : EReal) ∨ v = ⊤ then 0
  else Ideal.liftRound Int.floor (Ideal.div (Ideal.log v) (Ideal.log ((2 : ℝ) : EReal))) + 1

/-- The reference's power of two: zero below the least normal float, infinity past the greatest. -/
def refPower (e : EReal) : EReal :=
  if e < ((-126 : ℝ) : EReal) then 0 else if ((127 : ℝ) : EReal) < e then ⊤ else Ideal.exp2 e

/-- The floor of a real's base-two logarithm. -/
def log2 (r : ℝ) : ℤ := ⌊Real.log r / Real.log 2⌋

/-- The powers of two at or below a positive real are those up to its logarithm's floor. -/
theorem zpow_le_iff {r : ℝ} (hr : 0 < r) (m : ℤ) : (2 : ℝ) ^ m ≤ r ↔ m ≤ log2 r := by
  have h2 : 0 < Real.log 2 := Real.log_pos (by norm_num)
  rw [log2, Int.le_floor, le_div_iff₀ h2, ← Real.log_zpow, Real.log_le_log_iff (by positivity) hr]

/-- The least floats of the fields 1 to 254 at or below a real are those of the exponents up to its logarithm's floor. -/
theorem fieldValue_le_coe {b : ℕ} (h0 : 0 < b) (h1 : b < 255) {r : ℝ} (hr : 0 < r) :
    fieldValue b ≤ (r : EReal) ↔ (b : ℤ) - 127 ≤ log2 r := by
  unfold fieldValue
  rw [if_neg (by omega), if_neg (by omega), EReal.coe_le_coe_iff]
  exact zpow_le_iff hr _

theorem fieldValue_top : fieldValue 255 = ⊤ := by simp [fieldValue]

theorem card_le (n : ℕ) (hn : n ≤ 255) :
    (Finset.univ.filter fun k : Fin 256 => 0 < k.val ∧ k.val ≤ n).card = n := by
  have : ∀ n : Fin 256, (Finset.univ.filter fun k : Fin 256 => 0 < k.val ∧ k.val ≤ n.val).card = n.val := by
    intro n
    have e : (Finset.univ.filter fun k : Fin 256 => 0 < k.val ∧ k.val ≤ n.val) = Finset.Ioc 0 n := by
      ext k; simp only [Finset.mem_filter, Finset.mem_univ, true_and, Finset.mem_Ioc, Fin.lt_def, Fin.le_def]; rfl
    rw [e, Fin.card_Ioc]; simp
  exact this ⟨n, by omega⟩

/-- The counted field of infinity is the last one. -/
theorem fieldOf_top : fieldOf ⊤ = 255 := by
  refine (congrArg Finset.card (Finset.filter_congr fun k _ => ?_)).trans (card_le 255 le_rfl)
  have := k.isLt
  simp only [le_top, and_true]
  omega

/-- The counted field of a number below the least normal float is zero. -/
theorem fieldOf_small {v : EReal} (h : v < (((2 : ℝ) ^ (-126 : ℤ) : ℝ) : EReal)) : fieldOf v = 0 := by
  unfold fieldOf
  rw [Finset.card_eq_zero, Finset.filter_eq_empty_iff]
  rintro k - ⟨h0, hk⟩
  have hlt := lt_of_le_of_lt hk h
  unfold fieldValue at hlt
  rw [if_neg (by omega)] at hlt
  split at hlt
  · exact absurd hlt (by simp)
  · rw [EReal.coe_lt_coe_iff, zpow_lt_zpow_iff_right₀ (by norm_num)] at hlt
    omega

/-- The counted field of a real from the least normal float up: its logarithm's floor and 127, at most 254. -/
theorem fieldOf_coe {r : ℝ} (hr : (2 : ℝ) ^ (-126 : ℤ) ≤ r) : (fieldOf (r : EReal) : ℤ) = min 254 (log2 r + 127) := by
  have hpos : 0 < r := lt_of_lt_of_le (by positivity) hr
  have hlog : -126 ≤ log2 r := (zpow_le_iff hpos _).mp hr
  obtain ⟨n, hn⟩ := Int.eq_ofNat_of_zero_le (show 0 ≤ min 254 (log2 r + 127) by omega)
  rw [hn]
  have h := card_le n (by omega)
  unfold fieldOf
  rw [← h]
  congr 2
  ext k
  simp only [Finset.mem_filter, Finset.mem_univ, true_and]
  refine and_congr_right fun h0 => ?_
  by_cases hk : k.val = 255
  · rw [hk, fieldValue_top]
    simp only [top_le_iff, EReal.coe_ne_top, false_iff]
    omega
  · rw [fieldValue_le_coe h0 (by omega) hpos]
    omega

/-- The reference's exponent of a real from the least normal float up is one more than its logarithm's floor. -/
theorem refExponent_coe {r : ℝ} (hr : (2 : ℝ) ^ (-126 : ℤ) ≤ r) :
    refExponent (r : EReal) = (((log2 r + 1 : ℤ) : ℝ) : EReal) := by
  have hpos : 0 < r := lt_of_lt_of_le (by positivity) hr
  have h2 : Real.log 2 ≠ 0 := (Real.log_pos (by norm_num)).ne'
  unfold refExponent
  rw [if_neg (by simp only [EReal.coe_lt_coe_iff, not_or, not_lt, EReal.coe_ne_top, not_false_eq_true, and_true]; exact hr),
    Ideal.log_coe, Ideal.log_coe, if_neg (not_le.mpr hpos), if_neg (by norm_num), Ideal.div_coe h2, ← EReal.coe_mul,
    Ideal.liftRound_coe, mul_one_div]
  change ((log2 r : ℝ) : EReal) + 1 = _
  push_cast
  rfl

theorem exp2_intCast (n : ℤ) : Ideal.exp2 (((n : ℝ)) : EReal) = (((2 : ℝ) ^ n : ℝ) : EReal) := by
  rw [Ideal.exp2_coe]
  congr 1
  exact Real.rpow_intCast 2 n

theorem refPower_intCast (n : ℤ) :
    refPower ((n : ℝ) : EReal) = if n < -126 then 0 else if 127 < n then ⊤ else (((2 : ℝ) ^ n : ℝ) : EReal) := by
  unfold refPower
  have h1 : ((n : ℝ) : EReal) < ((-126 : ℝ) : EReal) ↔ n < -126 := by
    rw [EReal.coe_lt_coe_iff]; exact_mod_cast Iff.rfl
  have h2 : ((127 : ℝ) : EReal) < ((n : ℝ) : EReal) ↔ 127 < n := by
    rw [EReal.coe_lt_coe_iff]; exact_mod_cast Iff.rfl
  simp only [h1, h2, exp2_intCast]

theorem one_eq : (1 : EReal) = (((2 : ℝ) ^ (0 : ℤ) : ℝ) : EReal) := by simp

theorem refExponent_end {v : EReal} (h : v < (((2 : ℝ) ^ (-126 : ℤ) : ℝ) : EReal) ∨ v = ⊤) :
    refExponent v = (((0 : ℤ) : ℝ) : EReal) := by
  unfold refExponent; rw [if_pos h]; simp

theorem fieldOf_end {v : EReal} (h : v < (((2 : ℝ) ^ (-126 : ℤ) : ℝ) : EReal) ∨ v = ⊤) :
    fieldOf v = 0 ∨ fieldOf v = 255 := by
  rcases h with h | rfl
  · exact .inl (fieldOf_small h)
  · exact .inr fieldOf_top

/-- A number that is neither below the least normal float nor infinite is a real from that float up. -/
theorem exists_coe {v : EReal} (h : ¬(v < (((2 : ℝ) ^ (-126 : ℤ) : ℝ) : EReal) ∨ v = ⊤)) :
    ∃ r : ℝ, v = r ∧ (2 : ℝ) ^ (-126 : ℤ) ≤ r := by
  rw [not_or, not_lt] at h
  obtain ⟨h1, h2⟩ := h
  have h3 : v ≠ ⊥ := by
    rintro rfl
    exact absurd h1 (by simp)
  lift v to ℝ using ⟨h2, h3⟩
  exact ⟨v, rfl, by exact_mod_cast h1⟩

/-- THE SCALE: the kernel's float of the computed exponent field is the reference's power of two. -/
theorem scale_eq (v : EReal) : fieldValue (scaleField (fieldOf v)) = refPower (refExponent v) := by
  by_cases h : v < (((2 : ℝ) ^ (-126 : ℤ) : ℝ) : EReal) ∨ v = ⊤
  · rw [refExponent_end h, refPower_intCast, scaleField, if_pos (fieldOf_end h)]
    simp [fieldValue]
  · obtain ⟨r, rfl, hr⟩ := exists_coe h
    have hE := fieldOf_coe hr
    have hlog : -126 ≤ log2 r := (zpow_le_iff (lt_of_lt_of_le (by positivity) hr) _).mp hr
    rw [refExponent_coe hr, refPower_intCast, scaleField, if_neg (by omega), if_neg (by omega)]
    unfold fieldValue
    rw [if_neg (by omega)]
    by_cases hn : 127 < log2 r + 1
    · rw [if_pos hn, if_pos (by omega)]
    · rw [if_neg hn, if_neg (by omega)]
      congr 2
      omega

/-- THE SCALE'S INVERSE: likewise, at the negated exponent. -/
theorem inv_eq (v : EReal) : fieldValue (invField (fieldOf v)) = refPower (0 - refExponent v) := by
  by_cases h : v < (((2 : ℝ) ^ (-126 : ℤ) : ℝ) : EReal) ∨ v = ⊤
  · have e : (0 : EReal) - (((0 : ℤ) : ℝ) : EReal) = (((0 : ℤ) : ℝ) : EReal) := by simp
    rw [refExponent_end h, e, refPower_intCast, invField, if_pos (fieldOf_end h)]
    simp [fieldValue]
  · obtain ⟨r, rfl, hr⟩ := exists_coe h
    have hE := fieldOf_coe hr
    have hlog : -126 ≤ log2 r := (zpow_le_iff (lt_of_lt_of_le (by positivity) hr) _).mp hr
    have e : ∀ n : ℤ, (0 : EReal) - ((n : ℝ) : EReal) = (((-n : ℤ) : ℝ) : EReal) := fun n => by
      rw [zero_sub, ← EReal.coe_neg]; push_cast; rfl
    rw [refExponent_coe hr, e, refPower_intCast, invField, if_neg (by omega)]
    unfold fieldValue
    by_cases hn : -(log2 r + 1) < -126
    · rw [if_pos hn, if_pos (by omega)]
    · rw [if_neg hn, if_neg (by omega), if_neg (by omega), if_neg (by omega)]
      congr 2
      omega

end Cert.SqRelu

end
-- ==== Proof.Row.lean ====
/- One row of the result, as plain functions: the squared relu of a row times the weights, the level its scale is read off, its
   scale and its codes. The kernel and the reference are each shown to compute these. -/
module

public import proofs.«01_k».proof.Proof.Exponent

@[expose] public section

noncomputable section

namespace Cert.SqRelu

open Idealize.ShloMosaic

/-- The row `l` times the weights `W`, clamped at zero from below and squared. -/
def rowY (l : Fin 3072 → EReal) (W : Fin 3072 → Fin 768 → EReal) (j : Fin 768) : EReal :=
  max (∑ k, l k * W k j) 0 * max (∑ k, l k * W k j) 0

/-- The number the row's exponent is read off: the row's greatest value times the float next to 1 / 448. -/
def level (y : Fin 768 → EReal) : EReal :=
  Finset.fold max (Ideal.ofBits .f32 0xFF800000#32) y Finset.univ * Ideal.ofBits .f32 0x3B124925#32

/-- The row's scale, a power of two. -/
def scaleOf (y : Fin 768 → EReal) : EReal := refPower (refExponent (level y))

/-- The row's inverse scale. -/
def invOf (y : Fin 768 → EReal) : EReal := refPower (0 - refExponent (level y))

/-- A value's code: scaled and clipped to the format's range. -/
def codeOf (inv y : EReal) : EReal := min (Ideal.ofBits .f32 0x43E00000#32) (max (Ideal.ofBits .f32 0xC3E00000#32) (y * inv))

theorem rowY_nonneg (l : Fin 3072 → EReal) (W : Fin 3072 → Fin 768 → EReal) (j : Fin 768) : 0 ≤ rowY l W j :=
  mul_nonneg (le_max_right _ _) (le_max_right _ _)

/-- A squared value is its own magnitude. -/
theorem abs_rowY (l : Fin 3072 → EReal) (W : Fin 3072 → Fin 768 → EReal) (j : Fin 768) :
    max (rowY l W j) (-rowY l W j) = rowY l W j :=
  max_eq_left ((EReal.neg_le_neg_iff.mpr (rowY_nonneg l W j)).trans (by simpa using rowY_nonneg l W j))

end Cert.SqRelu

end
-- ==== Proof.Words.lean ====
/- The kernel's exponent words: what its integer operations compute from `v`, on one number. The count of exponent fields, the
   exponent from the count, and the floats of a clipped exponent field, each as the plain function of Exponent.lean. -/
module

public import proofs.«01_k».proof.Proof.Exponent
public import Idealize.ShloMosaic.Lib.Pointwise

@[expose] public section

noncomputable section

namespace Cert.SqRelu

open Idealize.ShloMosaic

/-- The parts of the word that holds a field: no sign, the field itself, no fraction. -/
theorem field_bits : ∀ b : Fin 256,
    ((BitVec.ofNat 32 b.val <<< 23).extractLsb' 31 1 == 1#1) = false ∧ ((BitVec.ofNat 32 b.val <<< 23).extractLsb' 23 8).toNat = b.val
      ∧ ((BitVec.ofNat 32 b.val <<< 23).extractLsb' 0 23).toNat = 0 := by decide +kernel

/-- A word shifted left by 23 on the vector unit. -/
theorem shli_23 (x : BitVec 32) : IntOp.shli .vector x 23#32 = x <<< 23 := rfl

/-- The significand and the exponent's power of two put together. -/
theorem two_pow_field (b : ℤ) : ((2 ^ 23 + 0 : ℕ) : ℝ) * (2 : ℝ) ^ (b - 127 - ((23 : ℕ) : ℤ)) = (2 : ℝ) ^ (b - 127) := by
  have h2 : (2 : ℝ) ≠ 0 := by norm_num
  rw [Nat.add_zero, Nat.cast_pow, Nat.cast_ofNat, ← zpow_natCast, ← zpow_add₀ h2, add_sub_cancel]

/-- The float whose bits are a field shifted into place. -/
theorem ofBits_field {b : ℕ} (hb : b < 256) :
    Ideal.ofBits .f32 (IntOp.shli .vector (BitVec.ofNat 32 b) 23#32) = fieldValue b := by
  obtain ⟨h0, h1, h2⟩ := field_bits ⟨b, hb⟩
  dsimp only at h0 h1 h2
  rw [shli_23]
  show Ideal.ieee 8 23 _ = _
  unfold Ideal.ieee
  simp only [Nat.reduceAdd, h0, h1, h2]
  have e255 : (2 ^ 8 - 1 : ℕ) = 255 := by norm_num
  have e127 : (2 ^ (8 - 1) - 1 : ℤ) = 127 := by norm_num
  rw [e255, e127]
  unfold fieldValue
  simp only [Bool.false_eq_true, if_false, if_true, one_mul]
  split
  · rename_i ht
    rw [if_neg (by omega)]
  · split
    · simp
    · rw [two_pow_field]

/-- Counting the fields 1 to 255 whose least float is at or below `v`, in words. -/
theorem count_eq (v : EReal) :
    Finset.fold IntOp.addi 0#32 (fun x : Fin 256 => Scalar.select
        (IntOp.andi (IntOp.cmpi CmpIPredicate.sgt (BitVec.ofNat 32 x.val) 0#32)
          (BitVec.ofBool (decide (Ideal.ofBits FTy.f32 (IntOp.shli ArithUnit.vector (BitVec.ofNat 32 x.val) 23#32) ≤ v))))
        1#32 0#32) Finset.univ = BitVec.ofNat 32 (fieldOf v) := by
  have hsel : ∀ x : Fin 256, Scalar.select
        (IntOp.andi (IntOp.cmpi CmpIPredicate.sgt (BitVec.ofNat 32 x.val) 0#32)
          (BitVec.ofBool (decide (Ideal.ofBits FTy.f32 (IntOp.shli ArithUnit.vector (BitVec.ofNat 32 x.val) 23#32) ≤ v))))
        1#32 0#32 = if 0 < x.val ∧ fieldValue x.val ≤ v then 1#32 else 0#32 := by
    intro x
    have h0 : IntOp.cmpi CmpIPredicate.sgt (BitVec.ofNat 32 x.val) 0#32 = BitVec.ofBool (decide (0 < x.val)) :=
      (by decide +kernel : ∀ x : Fin 256, IntOp.cmpi CmpIPredicate.sgt (BitVec.ofNat 32 x.val) 0#32 = BitVec.ofBool (decide (0 < x.val))) x
    rw [h0, ofBits_field x.isLt]
    by_cases ha : 0 < x.val <;> by_cases hb : fieldValue x.val ≤ v <;> simp [ha, hb, IntOp.andi, Scalar.select]
  simp only [hsel]
  have key : ∀ s : Finset (Fin 256), Finset.fold IntOp.addi 0#32 (fun x : Fin 256 => if 0 < x.val ∧ fieldValue x.val ≤ v then 1#32 else 0#32) s
      = BitVec.ofNat 32 (s.filter fun x => 0 < x.val ∧ fieldValue x.val ≤ v).card := by
    intro s
    induction s using Finset.cons_induction with
    | empty => rfl
    | cons a s ha ih =>
      rw [Finset.fold_cons, ih, Finset.filter_cons]
      split
      · rw [Finset.card_cons, IntOp.addi, BitVec.ofNat_add, BitVec.add_comm]
      · exact BitVec.zero_add _
  exact key _

/-- The exponent word of a counted field. -/
def exponentWord (E : BitVec 32) : BitVec 32 :=
  Scalar.select (IntOp.ori (IntOp.cmpi CmpIPredicate.eq E 0#32) (IntOp.cmpi CmpIPredicate.eq E 255#32)) 0#32 (IntOp.subi E 126#32)

/-- The exponent field of the power of two of an exponent word, clipped to a field. -/
def clipWord (e : BitVec 32) : BitVec 32 := IntOp.minsi 255#32 (IntOp.maxsi 0#32 (IntOp.addi e 127#32))

theorem fieldOf_lt (v : EReal) : fieldOf v < 256 := by
  have h : fieldOf v ≤ (Finset.univ.filter fun k : Fin 256 => 0 < k.val ∧ k.val ≤ 255).card :=
    Finset.card_le_card fun k hk => by
      simp only [Finset.mem_filter, Finset.mem_univ, true_and] at hk ⊢
      exact ⟨hk.1, by omega⟩
  rw [card_le 255 le_rfl] at h
  omega

/-- The scale's word is the field `scaleField`, and its float the field's. -/
theorem scaleWord_eq (v : EReal) :
    Ideal.ofBits .f32 (IntOp.shli .vector (clipWord (exponentWord (BitVec.ofNat 32 (fieldOf v)))) 23#32) = fieldValue (scaleField (fieldOf v)) := by
  have h : ∀ E : Fin 256, clipWord (exponentWord (BitVec.ofNat 32 E.val)) = BitVec.ofNat 32 (scaleField E.val) ∧ scaleField E.val < 256 := by
    decide +kernel
  obtain ⟨h1, h2⟩ := h ⟨fieldOf v, fieldOf_lt v⟩
  dsimp only at h1 h2
  rw [h1, ofBits_field h2]

/-- The inverse scale's word is the field `invField`, and its float the field's. -/
theorem invWord_eq (v : EReal) :
    Ideal.ofBits .f32 (IntOp.shli .vector (clipWord (IntOp.subi 0#32 (exponentWord (BitVec.ofNat 32 (fieldOf v))))) 23#32)
      = fieldValue (invField (fieldOf v)) := by
  have h : ∀ E : Fin 256, clipWord (IntOp.subi 0#32 (exponentWord (BitVec.ofNat 32 E.val))) = BitVec.ofNat 32 (invField E.val) ∧ invField E.val < 256 := by
    decide +kernel
  obtain ⟨h1, h2⟩ := h ⟨fieldOf v, fieldOf_lt v⟩
  dsimp only at h1 h2
  rw [h1, ofBits_field h2]

end Cert.SqRelu

end
-- ==== Proof.Tile.lean ====
/- One tile of the kernel: what its payloads compute at an index, from the scaled rows `L` and the scratch weights `W`. -/
module

public import proofs.«01_k».proof.Proof.Gen.KernelIdeal.Skeleton
public import proofs.«01_k».proof.Proof.Row
public import proofs.«01_k».proof.Proof.Words
public import Idealize.ShloMosaic.Lib.Pointwise

@[expose] public section

set_option maxRecDepth 8192

noncomputable section

namespace Cert.KernelIdeal.Tile

open Idealize.ShloMosaic Idealize.ShloMosaic.Pointwise Cert.KernelIdeal Cert.KernelIdeal.Gen Cert.SqRelu

/-- The accumulator the product starts from. -/
abbrev zeroAcc : FVec Ideal S512x768 .f32 := constant S512x768 .f32 0x00000000#32

/-- Row `i` of the squared relu of `L` times `W`. -/
abbrev tileY (L : FVec Ideal S512x3072 .bf16) (W : Vec Ideal S3072x768 .bf16) (i : Fin 512) : Fin 768 → EReal :=
  rowY (fun k => L (ix2 i k)) (fun k j => W (ix2 k j))

/-- The squared relu at an index. -/
theorem y_apply (L : FVec Ideal S512x3072 .bf16) (W : Vec Ideal S3072x768 .bf16) (i : Fin 512) (j : Fin 768) :
    k0_pay201 (F := Ideal) L W zeroAcc (ix2 i j) = tileY L W i j := by
  pointwise [k0_pay201]
  rfl

/-- The exponent word of row `i`. -/
theorem exponent_apply (L : FVec Ideal S512x3072 .bf16) (W : Vec Ideal S3072x768 .bf16) (i : Fin 512) :
    k0_pay202 (F := Ideal) L W zeroAcc (ix2 i 0) = exponentWord (BitVec.ofNat 32 (fieldOf (level (tileY L W i)))) := by
  have h : Finset.fold max (Ideal.ofBits FTy.f32 4286578688#32) (fun x => k0_pay201 L W zeroAcc (ix2 i x)) Finset.univ *
      Ideal.ofBits FTy.f32 991054117#32 = level (tileY L W i) := by
    unfold level
    simp only [y_apply]
  pointwise [k0_pay202]
  rw [h, count_eq]
  rfl

/-- The scale of row `i`. -/
theorem scale_apply (L : FVec Ideal S512x3072 .bf16) (W : Vec Ideal S3072x768 .bf16) (i : Fin 512) :
    k0_pay203 (F := Ideal) L W zeroAcc (ix2 i 0) = scaleOf (tileY L W i) := by
  pointwise [k0_pay203]
  rw [exponent_apply]
  exact (scaleWord_eq _).trans (scale_eq _)

/-- The codes at an index. -/
theorem codes_apply (L : FVec Ideal S512x3072 .bf16) (W : Vec Ideal S3072x768 .bf16) (i : Fin 512) (j : Fin 768) :
    k0_pay205 (F := Ideal) (k0_pay201 L W zeroAcc) (k0_pay204 L W zeroAcc) 127#32 (ix2 i j)
      = codeOf (invOf (tileY L W i)) (tileY L W i j) := by
  have h : k0_pay204 (F := Ideal) L W zeroAcc (ix2 i 0)
      = IntOp.subi 0#32 (exponentWord (BitVec.ofNat 32 (fieldOf (level (tileY L W i))))) := by
    rw [← exponent_apply]
    rfl
  pointwise [k0_pay205]
  rw [h, y_apply]
  unfold codeOf invOf
  rw [← inv_eq, ← invWord_eq]
  rfl

/-- A sum over the rows of a square that keeps the diagonal alone is the diagonal's element. -/
theorem sum_diagonal (f : Fin 128 → EReal) (l : Fin 128) :
    ∑ x : Fin 128, Scalar.select (IntOp.cmpi CmpIPredicate.eq (BitVec.ofNat 32 x.val) (BitVec.ofNat 32 l.val)) (f x) 0 = f l := by
  have h : ∀ x : Fin 128, Scalar.select (IntOp.cmpi CmpIPredicate.eq (BitVec.ofNat 32 x.val) (BitVec.ofNat 32 l.val)) (f x) 0
      = if x = l then f x else 0 := by
    intro x
    have e : (BitVec.ofNat 32 x.val == BitVec.ofNat 32 l.val) = decide (x = l) := by
      have := (by decide +kernel : ∀ x l : Fin 128, (BitVec.ofNat 32 x.val == BitVec.ofNat 32 l.val) = decide (x = l))
      exact this x l
    show Scalar.select (BitVec.ofBool (BitVec.ofNat 32 x.val == BitVec.ofNat 32 l.val)) (f x) 0 = _
    rw [e]
    by_cases hx : x = l <;> simp [hx, Scalar.select]
  simp only [h, Finset.sum_ite_eq', Finset.mem_univ, if_true]

/-- The first 128 scales laid along the lanes. -/
theorem diag0_apply (v : FVec Ideal S512x1 .f32) (l : Fin 128) :
    k0_pay206 (F := Ideal) v (ix3 0 0 l) = v (ix2 ⟨0 + l.val, by omega⟩ 0) := by
  pointwise [k0_pay206]
  rw [sum_diagonal]

/-- The next 128. -/
theorem diag1_apply (v : FVec Ideal S512x1 .f32) (l : Fin 128) :
    k0_pay207 (F := Ideal) v (ix3 0 0 l) = v (ix2 ⟨128 + l.val, by omega⟩ 0) := by
  pointwise [k0_pay207]
  rw [sum_diagonal]

/-- The next 128. -/
theorem diag2_apply (v : FVec Ideal S512x1 .f32) (l : Fin 128) :
    k0_pay1 (F := Ideal) (iota .tc S128x128 32 [0] iota_S128x128_d0_w32) (iota .tc S128x128 32 [1] iota_S128x128_d1_w32) (k0_pay208 v)
      (ix3 0 0 l) = v (ix2 ⟨256 + l.val, by omega⟩ 0) := by
  pointwise [k0_pay1, k0_pay208]
  rw [sum_diagonal]

/-- The last 128. -/
theorem diag3_apply (v : FVec Ideal S512x1 .f32) (l : Fin 128) :
    k0_pay2 (F := Ideal) v (iota .tc S128x128 32 [0] iota_S128x128_d0_w32) (iota .tc S128x128 32 [1] iota_S128x128_d1_w32)
      (ix3 0 0 l) = v (ix2 ⟨384 + l.val, by omega⟩ 0) := by
  pointwise [k0_pay2]
  rw [sum_diagonal]

end Cert.KernelIdeal.Tile

end
-- ==== Proof.Store.lean ====
/- The scales' block of a tile: four stores of 128 lanes each, one per row of the block. Row `r`, lane `l` holds the scale of the
   tile's row `128 r + l`. -/
module

public import proofs.«01_k».proof.Proof.Tile

@[expose] public section

set_option maxRecDepth 8192

noncomputable section

namespace Cert.KernelIdeal.Tile

open Idealize.ShloMosaic Idealize.ShloMosaic.Pointwise Cert.KernelIdeal Cert.KernelIdeal.Gen

/-- The column of 512 scales laid out in rows of 128 lanes. -/
def scaleRows (v : FVec Ideal S512x1 .f32) : FVec Ideal S1x4x128 .f32 :=
  fun y => v (ix2 ⟨128 * (y 1).val + (y 2).val, by
    have h1 : (y 1).val < 4 := (y 1).isLt
    have h2 : (y 2).val < 128 := (y 2).isLt
    omega⟩ 0)

/-- The four stores of the scales' block, the last made first. -/
def scalePieces (v : FVec Ideal S512x1 .f32) : List (View.Piece (Elt Ideal) S1x4x128 .f32) :=
  [⟨Rect.unit (s := S1x4x128) ![0, 3, 0] S1x1x128.size inb_S1x4x128_S1x1x128_0_3_0,
      k0_pay2 (F := Ideal) v (iota .tc S128x128 32 [0] iota_S128x128_d0_w32) (iota .tc S128x128 32 [1] iota_S128x128_d1_w32)⟩,
   ⟨Rect.unit (s := S1x4x128) ![0, 2, 0] S1x1x128.size inb_S1x4x128_S1x1x128_0_2_0,
      k0_pay1 (F := Ideal) (iota .tc S128x128 32 [0] iota_S128x128_d0_w32) (iota .tc S128x128 32 [1] iota_S128x128_d1_w32) (k0_pay208 v)⟩,
   ⟨Rect.unit (s := S1x4x128) ![0, 1, 0] S1x1x128.size inb_S1x4x128_S1x1x128_0_1_0, k0_pay207 (F := Ideal) v⟩,
   ⟨Rect.unit (s := S1x4x128) ![0, 0, 0] S1x1x128.size inb_S1x4x128_S1x1x128_0_0_0, k0_pay206 (F := Ideal) v⟩]

/-- One store: a payload that reads, lane by lane, the scales from row `128 r` on is the laid-out scales at row `r`. -/
theorem scaleRows_of_lanes (v : FVec Ideal S512x1 .f32) (r : Fin 4)
    (inb : ∀ a, (![0, r.val, 0] : Fin 3 → Nat) a + S1x1x128.size a ≤ S1x4x128.size a) (p : FVec Ideal S1x1x128 .f32)
    (h : ∀ l : Fin 128, p (ix3 0 0 l) = v (ix2 ⟨128 * r.val + l.val, by omega⟩ 0)) (x : S1x1x128.Idx) :
    p x = scaleRows v ((Rect.unit (s := S1x4x128) ![0, r.val, 0] S1x1x128.size inb).idx x) := by
  have h1 : (x 1).val < 1 := (x 1).isLt
  have hx : x = ix3 (n0 := 1) (n1 := 1) (n2 := 128) 0 0 (x 2) := by
    have h0 : (x 0).val < 1 := (x 0).isLt
    funext a
    match a with
    | ⟨0, _⟩ => exact Fin.ext (show (x 0).val = 0 by omega)
    | ⟨1, _⟩ => exact Fin.ext (show (x 1).val = 0 by omega)
    | ⟨2, _⟩ => rfl
  refine (congrArg p hx).trans ((h (x 2)).trans ?_)
  unfold scaleRows
  congr 2
  refine Fin.ext (show 128 * r.val + (x 2).val = 128 * (r.val + 1 * (x 1).val) + (0 + 1 * (x 2).val) from ?_)
  omega

/-- What the four stores leave is the laid-out scales wherever one of them covers. -/
theorem canon_scalePieces (v : FVec Ideal S512x1 .f32) (y : S1x4x128.Idx) (hy : ∃ pc ∈ scalePieces v, y ∈ pc.1.set) :
    View.canon (scalePieces v) y = scaleRows v y := by
  refine View.canon_apply_of_pieces (scaleRows v) (scalePieces v) ?_ y hy
  intro pc hpc x
  simp only [scalePieces, List.mem_cons, List.not_mem_nil, or_false] at hpc
  rcases hpc with rfl | rfl | rfl | rfl
  · exact scaleRows_of_lanes v 3 inb_S1x4x128_S1x1x128_0_3_0 _ (fun l => diag3_apply v l) x
  · exact scaleRows_of_lanes v 2 inb_S1x4x128_S1x1x128_0_2_0 _ (fun l => diag2_apply v l) x
  · exact scaleRows_of_lanes v 1 inb_S1x4x128_S1x1x128_0_1_0 _ (fun l => diag1_apply v l) x
  · exact scaleRows_of_lanes v 0 inb_S1x4x128_S1x1x128_0_0_0 _ (fun l => diag0_apply v l) x

end Cert.KernelIdeal.Tile

end
-- ==== Proof.Block.lean ====
/- What one grid point leaves: the codes of its tile, the scales of its tile, and the widened weights in the scratch, as functions of
   its input blocks. The first point widens the weights; the others find them in the scratch. -/
module

public import proofs.«01_k».proof.Proof.Gen.KernelIdeal.Frame
public import proofs.«01_k».proof.Proof.Lhs
public import proofs.«01_k».proof.Proof.Weights
public import proofs.«01_k».proof.Proof.Store

@[expose] public section

set_option maxRecDepth 8192

noncomputable section

namespace Cert.KernelIdeal.Tile

open Idealize.ShloMosaic Idealize.ShloMosaic.TcCoe Cert.KernelIdeal Cert.KernelIdeal.Gen

/-- A tile's codes, from its left operand and the widened weights. -/
def tileCodes (L : FVec Ideal S512x3072 .bf16) (W : FVec Ideal S3072x768 .bf16) : FVec Ideal S512x768 .fp8e4m3 :=
  k0_pay205 (F := Ideal) (k0_pay201 L W zeroAcc) (k0_pay204 L W zeroAcc) 127#32

/-- A tile's scales, laid out, from its left operand and the widened weights. -/
def tileScales (L : FVec Ideal S512x3072 .bf16) (W : FVec Ideal S3072x768 .bf16) : FVec Ideal S1x4x128 .f32 :=
  scaleRows (k0_pay203 (F := Ideal) L W zeroAcc)

theorem hz2 : (![0, 0] : Fin 2 → Nat) = fun _ => 0 := funext fun a => by fin_cases a <;> rfl

variable (c : Dev nD) (i : grid0.Coords) (arg1 : Memref sig .tc .vmem S512x3072 .fp8e4m3) (harg1 : arg1.IsWhole)
  (arg2 : Memref sig .tc .vmem S512x24 .f32) (harg2 : arg2.IsWhole)
  (arg3 : Memref sig .tc .vmem S3072x768 .fp8e4m3) (harg3 : arg3.IsWhole)
  (arg4 : Memref sig .tc .smem S24x6 .f32) (harg4 : arg4.IsWhole)
  (arg5 : Memref sig .tc .vmem S512x768 .fp8e4m3) (harg5 : arg5.IsWhole)
  (arg6 : Memref sig .tc .vmem S1x4x128 .f32) (harg6 : arg6.IsWhole)
  (arg7 : Memref sig .tc .vmem S3072x768 .bf16) (harg7 : arg7.IsWhole)
  (x0 : Vec Ideal S512x3072 .fp8e4m3) (x1 : Vec Ideal S512x24 .f32) (x2 : Vec Ideal S3072x768 .fp8e4m3) (x3 : Vec Ideal S24x6 .f32)

/-- The codes a later point leaves. -/
theorem codes_later (hc0 : ¬cond0_0 i) (xs0 : Vec Ideal S3072x768 .bf16) :
    out0_B_4 c i arg1 harg1 arg2 harg2 arg3 harg3 arg4 harg4 arg5 harg5 arg6 harg6 arg7 harg7 hc0 x0 x1 x2 x3 xs0
      = tileCodes (lhs x0 x1) xs0 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz2]
  simp only [View.readAt_eq_ld, harg1.read_unread, harg2.read_unread, harg7.read_unread, View.ld_unit_zero (S := S3072x768) hz2]
  rfl

/-- The stores of the scales' block a later point makes. -/
theorem scaleStores_later (hc0 : ¬cond0_0 i) (xs0 : Vec Ideal S3072x768 .bf16) :
    (kernelRun0_B (F := Ideal) c i arg1 harg1 arg2 harg2 arg3 harg3 arg4 harg4 arg5 harg5 arg6 harg6 arg7 harg7 hc0 x0 x1 x2 x3 xs0).2.1
      = scalePieces (k0_pay203 (F := Ideal) (lhs x0 x1) xs0 zeroAcc) := by
  unfold kernelRun0_B
  dsimp only
  sl_unfold_words
  simp only [View.readAt_eq_ld, harg1.read_unread, harg2.read_unread, harg7.read_unread, View.ld_unit_zero (S := S3072x768) hz2]
  rfl

/-- The scales a later point leaves. -/
theorem scales_later (hc0 : ¬cond0_0 i) (xs0 : Vec Ideal S3072x768 .bf16) :
    out0_B_5 c i arg1 harg1 arg2 harg2 arg3 harg3 arg4 harg4 arg5 harg5 arg6 harg6 arg7 harg7 hc0 x0 x1 x2 x3 xs0
      = tileScales (lhs x0 x1) xs0 := by
  have hcov := cover0_B_5 (F := Ideal) c i arg1 harg1 arg2 harg2 arg3 harg3 arg4 harg4 arg5 harg5 arg6 harg6 arg7 harg7 hc0 x0 x1 x2 x3 xs0
  unfold out0_B_5
  rw [View.read_writes_eq_canon _ _ _ hcov]
  rw [scaleStores_later] at hcov ⊢
  exact funext fun y => canon_scalePieces _ y (hcov y)

/-- The stores into the scratch that the first point makes. -/
theorem weightStores :
    kernelRun0_A.sl.HS0_144 (F := Ideal) c arg3 harg3 arg4 harg4 x2 x3 = wpieces x2 x3 := by
  sl_unfold_words
  simp only [View.readAt_eq_ld, harg3.read_unread, harg4.read_unread]
  rfl

/-- The stores into the scratch cover it. -/
theorem weightStores_cover (y : S3072x768.Idx) : ∃ pc ∈ wpieces x2 x3, y ∈ pc.1.set :=
  View.cover_of_tiledL (wpieces x2 x3) S128x128.size (by sl_kernel_rfl) y

/-- What the stores into the scratch leave. -/
theorem canon_weightStores :
    View.canon (kernelRun0_A.sl.HS0_144 (F := Ideal) c arg3 harg3 arg4 harg4 x2 x3) = weights x2 x3 := by
  rw [weightStores]
  exact funext fun y => canon_wpieces x2 x3 y (weightStores_cover x2 x3 y)

/-- The weights the first point reads back. -/
theorem weights_read :
    kernelRun0_A.sl.v196 (F := Ideal) c arg3 harg3 arg4 harg4 arg7 x2 x3 = weights x2 x3 := by
  unfold kernelRun0_A.sl.v196
  rw [View.readCov_eq_canon_ld, canon_weightStores, View.ld_unit_zero (S := S3072x768) hz2]
  rw [weightStores]
  exact weightStores_cover x2 x3

/-- The left operand the first point builds. -/
theorem lhs_read : kernelRun0_A.sl.r_207 (F := Ideal) c arg1 harg1 arg2 harg2 x0 x1 = lhs x0 x1 := by
  sl_unfold_words
  simp only [View.readAt_eq_ld, harg1.read_unread, harg2.read_unread]
  rfl

/-- The scratch the first point leaves. -/
theorem scratch_first (hc0 : cond0_0 i) :
    sout0_A_0 c i arg1 harg1 arg2 harg2 arg3 harg3 arg4 harg4 arg5 harg5 arg6 harg6 arg7 harg7 hc0 x0 x1 x2 x3 = weights x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3)]
  exact canon_weightStores c arg3 harg3 arg4 harg4 x2 x3

/-- The codes the first point leaves. -/
theorem codes_first (hc0 : cond0_0 i) :
    out0_A_4 c i arg1 harg1 arg2 harg2 arg3 harg3 arg4 harg4 arg5 harg5 arg6 harg6 arg7 harg7 hc0 x0 x1 x2 x3
      = tileCodes (lhs x0 x1) (weights x2 x3) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  rw [View.canon_unit_zero hz2]
  unfold kernelRun0_A.sl.r_208 kernelRun0_A.sl.r_210
  rw [weights_read, lhs_read]
  rfl

/-- The stores of the scales' block the first point makes. -/
theorem scaleStores_first (hc0 : cond0_0 i) :
    (kernelRun0_A (F := Ideal) c i arg1 harg1 arg2 harg2 arg3 harg3 arg4 harg4 arg5 harg5 arg6 harg6 arg7 harg7 hc0 x0 x1 x2 x3).2.1
      = scalePieces (k0_pay203 (F := Ideal) (lhs x0 x1) (weights x2 x3) zeroAcc) := by
  rw [← weights_read c arg3 harg3 arg4 harg4 arg7 x2 x3, ← lhs_read c arg1 harg1 arg2 harg2 x0 x1]
  rfl

/-- The scales the first point leaves. -/
theorem scales_first (hc0 : cond0_0 i) :
    out0_A_5 c i arg1 harg1 arg2 harg2 arg3 harg3 arg4 harg4 arg5 harg5 arg6 harg6 arg7 harg7 hc0 x0 x1 x2 x3
      = tileScales (lhs x0 x1) (weights x2 x3) := by
  have hcov := cover0_A_5 (F := Ideal) c i arg1 harg1 arg2 harg2 arg3 harg3 arg4 harg4 arg5 harg5 arg6 harg6 arg7 harg7 hc0 x0 x1 x2 x3
  unfold out0_A_5
  rw [View.read_writes_eq_canon _ _ _ hcov]
  rw [scaleStores_first] at hcov ⊢
  exact funext fun y => canon_scalePieces _ y (hcov y)

end Cert.KernelIdeal.Tile

end
-- ==== Proof.Spec.lean ====
/- A row of the whole result as a function of the four arguments, read at row and column numbers. -/
module

public import proofs.«01_k».proof.Proof.Row

@[expose] public section

noncomputable section

namespace Cert.SqRelu

/-- Row `r` of the squared relu: the scaled codes of `x`'s row times the scaled weights. A scale stands for 128 columns of `x`, and
    for a block of 128 rows and 128 columns of `w`. -/
def resultRow (x : Fin 4096 → Fin 3072 → EReal) (xs : Fin 4096 → Fin 24 → EReal) (w : Fin 3072 → Fin 768 → EReal)
    (ws : Fin 24 → Fin 6 → EReal) (r : Fin 4096) : Fin 768 → EReal :=
  rowY (fun k => x r k * xs r ⟨k.val / 128, by omega⟩)
    (fun k j => w k j * ws ⟨k.val / 128, by omega⟩ ⟨j.val / 128, by omega⟩)

end Cert.SqRelu

end
-- ==== Proof.Array.lean ====
/- The kernel's result arrays at an index: the grid's points put together. Every point leaves the codes and the scales of its 512 rows,
   with the weights that the first point widened. -/
module

public import proofs.«01_k».proof.Proof.Gen.KernelIdeal.Value
public import proofs.«01_k».proof.Proof.Block
public import proofs.«01_k».proof.Proof.Spec

@[expose] public section

set_option maxRecDepth 8192

noncomputable section

namespace Cert.KernelIdeal.Tile

open Idealize.ShloMosaic Idealize.ShloMosaic.TcCoe Idealize.ShloMosaic.Pointwise Cert.KernelIdeal Cert.KernelIdeal.Gen Cert.SqRelu

variable (m : (ℓ : Loc nD τ sig) → Buf (Elt Ideal) ℓ) (c : Dev nD)

/-- The four arguments at row and column numbers. -/
abbrev argX (r : Fin 4096) (k : Fin 3072) : EReal := m ((c : Thread nD τ).loc main_arg0) (ix3 (n0 := 1) (n1 := 4096) (n2 := 3072) 0 r k)
abbrev argXs (r : Fin 4096) (g : Fin 24) : EReal := m ((c : Thread nD τ).loc main_arg1) (ix3 (n0 := 1) (n1 := 4096) (n2 := 24) 0 r g)
abbrev argW (k : Fin 3072) (j : Fin 768) : EReal := m ((c : Thread nD τ).loc main_arg2) (ix2 (n0 := 3072) (n1 := 768) k j)
abbrev argWs (g : Fin 24) (j : Fin 6) : EReal := m ((c : Thread nD τ).loc main_arg3) (ix2 (n0 := 24) (n1 := 6) g j)

/-- Row `r` of the squared relu of the arguments. -/
abbrev argRow (r : Fin 4096) : Fin 768 → EReal := resultRow (argX m c) (argXs m c) (argW m c) (argWs m c) r

/-- The codes without their leading axis of one. -/
theorem dropLead_apply (x : Vec Ideal S1x4096x3072 .fp8e4m3) (r : Fin 4096) (k : Fin 3072) :
    shapeCast S4096x3072 x shapeCasts_S1x4096x3072_S4096x3072 (ix2 r k) = x (ix3 0 r k) := by
  pointwise

/-- The scales without their leading axis of one. -/
theorem dropLead_scales_apply (x : Vec Ideal S1x4096x24 .f32) (r : Fin 4096) (g : Fin 24) :
    shapeCast S4096x24 x shapeCasts_S1x4096x24_S4096x24 (ix2 r g) = x (ix3 0 r g) := by
  pointwise

/-- The codes of `x` as the region finds them: the argument without its leading axis. -/
theorem entry_codes (r : Fin 4096) (k : Fin 3072) : V m c main_v0 (ix2 (n0 := 4096) (n1 := 3072) r k) = argX m c r k := by
  have h : V m c main_v0 = shapeCast S4096x3072 (m ((c : Thread nD τ).loc main_arg0)) shapeCasts_S1x4096x3072_S4096x3072 := by
    simp only [V, hostOps0]
    after_results_simp
    rfl
  rw [h]
  exact dropLead_apply _ r k

/-- The scales of `x` as the region finds them: the argument without its leading axis. -/
theorem entry_scales (r : Fin 4096) (g : Fin 24) : V m c main_v1 (ix2 (n0 := 4096) (n1 := 24) r g) = argXs m c r g := by
  have h : V m c main_v1 = shapeCast S4096x24 (m ((c : Thread nD τ).loc main_arg1)) shapeCasts_S1x4096x24_S4096x24 := by
    simp only [V, hostOps0]
    after_results_simp
    rfl
  rw [h]
  exact dropLead_scales_apply _ r g

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

theorem point_lt (t : Fin cfg0.N) : t.val < 8 := lt_of_lt_of_eq t.isLt (show cfg0.N = 8 from N_0)

/-- A point's block of the codes of `x`: 512 rows. -/
theorem block_codes (t : Fin cfg0.N) (i : Fin 512) (k : Fin 3072) :
    (iblk m c 0 t : Vec Ideal S512x3072 .fp8e4m3) (ix2 i k)
      = argX m c ⟨512 * t.val + i.val, by have := point_lt t; omega⟩ k := by
  obtain ⟨e0, e1⟩ := index0 t
  have := point_lt t
  rw [← entry_codes]
  show V m c main_v0 (((cfg0.win 0).blk t).view.emb (ix2 (n0 := 512) (n1 := 3072) i k)) = _
  congr 1
  funext a; apply Fin.ext
  match a with
  | ⟨0, _⟩ => show win0_0.index t (0 : Fin 2) * 512 + 1 * i.val = 512 * t.val + i.val; omega
  | ⟨1, _⟩ => show win0_0.index t (1 : Fin 2) * 3072 + 1 * k.val = k.val; omega

/-- A point's block of the scales of `x`: 512 rows. -/
theorem block_scales (t : Fin cfg0.N) (i : Fin 512) (g : Fin 24) :
    (iblk m c 1 t : Vec Ideal S512x24 .f32) (ix2 i g)
      = argXs m c ⟨512 * t.val + i.val, by have := point_lt t; omega⟩ g := by
  obtain ⟨e0, e1⟩ := index1 t
  have := point_lt t
  rw [← entry_scales]
  show V m c main_v1 (((cfg0.win 1).blk t).view.emb (ix2 (n0 := 512) (n1 := 24) i g)) = _
  congr 1
  funext a; apply Fin.ext
  match a with
  | ⟨0, _⟩ => show win0_1.index t (0 : Fin 2) * 512 + 1 * i.val = 512 * t.val + i.val; omega
  | ⟨1, _⟩ => show win0_1.index t (1 : Fin 2) * 24 + 1 * g.val = g.val; omega

/-- A point's block of the weights is the whole argument. -/
theorem block_weights (t : Fin cfg0.N) :
    (iblk m c 2 t : Vec Ideal S3072x768 .fp8e4m3) = m ((c : Thread nD τ).loc main_arg2) := by
  obtain ⟨e0, e1⟩ := index2 t
  rw [← V_main_arg2 m c]
  funext y
  show V m c main_arg2 (((cfg0.win 2).blk t).view.emb y) = V m c main_arg2 y
  congr 1
  funext a; apply Fin.ext
  match a with
  | ⟨0, _⟩ => show win0_2.index t (0 : Fin 2) * 3072 + 1 * (y 0).val = (y 0).val; omega
  | ⟨1, _⟩ => show win0_2.index t (1 : Fin 2) * 768 + 1 * (y 1).val = (y 1).val; omega

/-- A point's block of the weights' scales is the whole argument. -/
theorem block_weightScales (t : Fin cfg0.N) :
    (iblk m c 3 t : Vec Ideal S24x6 .f32) = m ((c : Thread nD τ).loc main_arg3) := by
  obtain ⟨e0, e1⟩ := index3 t
  rw [← V_main_arg3 m c]
  funext y
  show V m c main_arg3 (((cfg0.win 3).blk t).view.emb y) = V m c main_arg3 y
  congr 1
  funext a; apply Fin.ext
  match a with
  | ⟨0, _⟩ => show win0_3.index t (0 : Fin 2) * 24 + 1 * (y 0).val = (y 0).val; omega
  | ⟨1, _⟩ => show win0_3.index t (1 : Fin 2) * 6 + 1 * (y 1).val = (y 1).val; omega

/-- The widened weights. -/
abbrev argWeights : FVec Ideal S3072x768 .bf16 := weights (m ((c : Thread nD τ).loc main_arg2)) (m ((c : Thread nD τ).loc main_arg3))

/-- A point's left operand. -/
abbrev argLhs (t : Fin cfg0.N) : FVec Ideal S512x3072 .bf16 := lhs (iblk m c 0 t) (iblk m c 1 t)

/-- What every point leaves: its tile's codes and scales, and the widened weights in the scratch. -/
theorem point_leaves : ∀ (n : ℕ) (hn : n < cfg0.N), outsAt0 m c n hn
    = (tileCodes (argLhs m c ⟨n, hn⟩) (argWeights m c), tileScales (argLhs m c ⟨n, hn⟩) (argWeights m c), argWeights m c) := by
  intro n
  induction n with
  | zero =>
    intro hn
    refine (outsAt0_A m c ⟨0, hn⟩ (Nat.zero_mod _)).trans ?_
    rw [codes_first, scales_first, scratch_first, block_weights, block_weightScales]
  | succ n ih =>
    intro hn
    have h8 : n + 1 < 8 := point_lt ⟨n + 1, hn⟩
    refine (outsAt0_B m c ⟨n + 1, hn⟩ (show ¬(n + 1) % 8 = 0 by omega)).trans ?_
    have hs : (outsAt0 m c (n + 1 - 1) (Nat.lt_of_le_of_lt (Nat.sub_le _ _) hn)).2.2 = argWeights m c :=
      congrArg (fun p => p.2.2) (ih (Nat.lt_of_succ_lt hn))
    rw [codes_later, scales_later]
    show (tileCodes _ (outsAt0 m c (n + 1 - 1) _).2.2, tileScales _ (outsAt0 m c (n + 1 - 1) _).2.2, (outsAt0 m c (n + 1 - 1) _).2.2) = _
    rw [hs]

/-- Row `i` of a point's squared relu is a row of the whole. -/
theorem tileY_eq (t : Fin cfg0.N) (i : Fin 512) :
    tileY (argLhs m c t) (argWeights m c) i = argRow m c ⟨512 * t.val + i.val, by have := point_lt t; omega⟩ := by
  have h : (fun k => argLhs m c t (ix2 i k)) = fun k : Fin 3072 =>
      argX m c ⟨512 * t.val + i.val, by have := point_lt t; omega⟩ k
        * argXs m c ⟨512 * t.val + i.val, by have := point_lt t; omega⟩ ⟨k.val / 128, by omega⟩ :=
    funext fun k => (lhs_apply _ _ i k).trans (congrArg₂ (· * ·) (block_codes m c t i k) (block_scales m c t i _))
  unfold tileY argRow resultRow
  rw [h]
  rfl

/-- The kernel's codes at an index. -/
theorem codes_at (r : Fin 4096) (j : Fin 768) :
    Value.G4 m c (ix2 (n0 := 4096) (n1 := 768) r j) = codeOf (invOf (argRow m c r)) (argRow m c r j) := by
  have hp : Value.pt4Of (ix2 (n0 := 4096) (n1 := 768) r j) = r.val / 512 := by
    show 1 * (r.val / 512 - 0) + 1 * (j.val / 768 - 0) = r.val / 512
    omega
  have hN : r.val / 512 < cfg0.N := lt_of_lt_of_eq (show r.val / 512 < 8 by omega) (show 8 = cfg0.N from N_0.symm)
  unfold Value.G4
  rw [dif_pos (by rw [hp]; exact hN), Value.fold0_congr m c _ _ (r.val / 512) (by omega) hp, ← Value.outsAt0_sweep m c _ hN, point_leaves]
  have hl : Value.loc4Of (ix2 (n0 := 4096) (n1 := 768) r j) = ix2 (n0 := 512) (n1 := 768) ⟨r.val % 512, by omega⟩ j := by
    funext a; apply Fin.ext
    match a with
    | ⟨0, _⟩ => rfl
    | ⟨1, _⟩ => show j.val % 768 = j.val; omega
  rw [hl]
  show tileCodes _ _ _ = _
  unfold tileCodes
  rw [codes_apply, tileY_eq]
  have hr : (⟨512 * (r.val / 512) + r.val % 512, by omega⟩ : Fin 4096) = r := Fin.ext (by show 512 * (r.val / 512) + r.val % 512 = r.val; omega)
  simp only [hr]

/-- The kernel's scales at an index. -/
theorem scales_at (q : Fin 8) (p : Fin 4) (l : Fin 128) :
    Value.G5 m c (ix3 (n0 := 8) (n1 := 4) (n2 := 128) q p l)
      = scaleOf (argRow m c ⟨512 * q.val + (128 * p.val + l.val), by omega⟩) := by
  have hp : Value.pt5Of (ix3 (n0 := 8) (n1 := 4) (n2 := 128) q p l) = q.val := by
    show 1 * (q.val / 1 - 0) + 1 * (p.val / 4 - 0) + 1 * (l.val / 128 - 0) = q.val
    omega
  have hN : q.val < cfg0.N := lt_of_lt_of_eq q.isLt (show 8 = cfg0.N from N_0.symm)
  unfold Value.G5
  rw [dif_pos (by rw [hp]; exact hN), Value.fold0_congr m c _ _ q.val (by omega) hp, ← Value.outsAt0_sweep m c _ hN, point_leaves]
  have hl : Value.loc5Of (ix3 (n0 := 8) (n1 := 4) (n2 := 128) q p l) = ix3 (n0 := 1) (n1 := 4) (n2 := 128) 0 p l := by
    funext a; apply Fin.ext
    match a with
    | ⟨0, _⟩ => show q.val % 1 = 0; omega
    | ⟨1, _⟩ => show p.val % 4 = p.val; omega
    | ⟨2, _⟩ => show l.val % 128 = l.val; omega
  rw [hl]
  show k0_pay203 (F := Ideal) _ _ zeroAcc (ix2 (n0 := 512) (n1 := 1) ⟨128 * p.val + l.val, _⟩ 0) = _
  rw [scale_apply, tileY_eq]

end Cert.KernelIdeal.Tile

end
-- ==== Proof.ReferenceRun.lean ====
/- The reference's run, read: its region has one grid point, each window's block there is its whole array, and each result
   after the run is the body's payload of the argument arrays. -/
module

public import proofs.«01_k».proof.Proof.Gen.ReferenceIdeal.Frame
public import Idealize.ShloMosaic.Lib.Pipeline.Value

@[expose] public section

noncomputable section

namespace Cert.ReferenceIdeal.RunValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4096x768.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8x4x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1x4096x3072.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 4096 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S1x4096x24.Idx) : ((cfg0.win 1).blk t).view.emb j = j := by
  obtain ⟨e0, e1, e2⟩ := idx_zero1 t
  funext a; apply Fin.ext
  match a with
  | ⟨0, _⟩ => show win0_1.index t (0 : Fin 3) * 1 + 1 * (j 0).val = (j 0).val; omega
  | ⟨1, _⟩ => show win0_1.index t (1 : Fin 3) * 4096 + 1 * (j 1).val = (j 1).val; omega
  | ⟨2, _⟩ => show win0_1.index t (2 : Fin 3) * 24 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3072x768.Idx) : ((cfg0.win 2).blk t).view.emb j = j := by
  obtain ⟨e0, e1⟩ := idx_zero2 t
  funext a; apply Fin.ext
  match a with
  | ⟨0, _⟩ => show win0_2.index t (0 : Fin 2) * 3072 + 1 * (j 0).val = (j 0).val; omega
  | ⟨1, _⟩ => show win0_2.index t (1 : Fin 2) * 768 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S24x6.Idx) : ((cfg0.win 3).blk t).view.emb j = j := by
  obtain ⟨e0, e1⟩ := idx_zero3 t
  funext a; apply Fin.ext
  match a with
  | ⟨0, _⟩ => show win0_3.index t (0 : Fin 2) * 24 + 1 * (j 0).val = (j 0).val; omega
  | ⟨1, _⟩ => show win0_3.index t (1 : Fin 2) * 6 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4096x768.Idx) : ((cfg0.win 4).blk t).view.emb j = j := by
  obtain ⟨e0, e1⟩ := idx_zero4 t
  funext a; apply Fin.ext
  match a with
  | ⟨0, _⟩ => show win0_4.index t (0 : Fin 2) * 4096 + 1 * (j 0).val = (j 0).val; omega
  | ⟨1, _⟩ => show win0_4.index t (1 : Fin 2) * 768 + 1 * (j 1).val = (j 1).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S8x4x128.Idx) : ((cfg0.win 5).blk t).view.emb j = j := by
  obtain ⟨e0, e1, e2⟩ := idx_zero5 t
  funext a; apply Fin.ext
  match a with
  | ⟨0, _⟩ => show win0_5.index t (0 : Fin 3) * 8 + 1 * (j 0).val = (j 0).val; omega
  | ⟨1, _⟩ => show win0_5.index t (1 : Fin 3) * 4 + 1 * (j 1).val = (j 1).val; omega
  | ⟨2, _⟩ => show win0_5.index t (2 : Fin 3) * 128 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S1x4096x3072 .fp8e4m3) (a1 : Vec F S1x4096x24 .f32) (a2 : Vec F S3072x768 .fp8e4m3) (a3 : Vec F S24x6 .f32) : Vec F S4096x768 .fp8e4m3 :=
  k0_pay1 (k0_pay3 a0 a1 a2 a3) (k0_pay5 a0 a1 a2 a3)

/-- A load of the whole of a block reads the block, and the one store through the whole rectangle leaves its payload. -/
theorem out4_eq (a0 : Vec F S1x4096x3072 .fp8e4m3) (a1 : Vec F S1x4096x24 .f32) (a2 : Vec F S3072x768 .fp8e4m3) (a3 : Vec F S24x6 .f32) : out0_4 (F := F) a0 a1 a2 a3 = G4 a0 a1 a2 a3 := by
  unfold out0_4
  rw [View.canon_unit_zero hz4, View.ld_unit_zero (S := S1x4096x3072) hz0 _ a0, View.ld_unit_zero (S := S1x4096x24) hz1 _ a1, View.ld_unit_zero (S := S3072x768) hz2 _ a2, View.ld_unit_zero (S := S24x6) hz3 _ a3]

/-- Cutting the point's block out of `X` and reading `X` through the block's view give the same. -/
theorem cut4_eq (t : Fin cfg0.N) (X : Vec F S4096x768 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4096x768.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S1x4096x3072 .fp8e4m3) (a1 : Vec F S1x4096x24 .f32) (a2 : Vec F S3072x768 .fp8e4m3) (a3 : Vec F S24x6 .f32) : Vec F S8x4x128 .f32 :=
  k0_pay2 (k0_pay5 a0 a1 a2 a3)

/-- The one store through the whole rectangle leaves its payload. -/
theorem out5_eq (a0 : Vec F S1x4096x3072 .fp8e4m3) (a1 : Vec F S1x4096x24 .f32) (a2 : Vec F S3072x768 .fp8e4m3) (a3 : Vec F S24x6 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S8x4x128 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S8x4x128.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      kept_main_arg0 m r h c,
      kept_main_arg1 m r h c,
      kept_main_arg2 m r h c,
      kept_main_arg3 m r h c⟩)
    (run_main m ρ)

end Cert.ReferenceIdeal.RunValue

end
-- ==== Proof.Reference.lean ====
/- The reference at an index: a row's codes and scale, by the row functions that describe a tile of the kernel. -/
module

public import proofs.«01_k».proof.Proof.ReferenceRun
public import proofs.«01_k».proof.Proof.Spec
public import proofs.«01_k».proof.Proof.Words
public import Idealize.ShloMosaic.Lib.Pointwise

@[expose] public section

set_option maxRecDepth 8192

noncomputable section

namespace Cert.ReferenceIdeal.Rows

open Idealize.ShloMosaic Idealize.ShloMosaic.Pointwise Cert.ReferenceIdeal Cert.ReferenceIdeal.Gen Cert.SqRelu

/-- Row `r` of the squared relu of the arguments. -/
abbrev argRow (x : Vec Ideal S1x4096x3072 .fp8e4m3) (xs : Vec Ideal S1x4096x24 .f32) (w : Vec Ideal S3072x768 .fp8e4m3)
    (ws : Vec Ideal S24x6 .f32) (r : Fin 4096) : Fin 768 → EReal :=
  resultRow (fun r k => x (ix3 0 r k)) (fun r g => xs (ix3 0 r g)) (fun k j => w (ix2 k j)) (fun g j => ws (ix2 g j)) r

section
variable (x : Vec Ideal S1x4096x3072 .fp8e4m3) (xs : Vec Ideal S1x4096x24 .f32) (w : Vec Ideal S3072x768 .fp8e4m3) (ws : Vec Ideal S24x6 .f32)

/-- The squared relu at an index. -/
theorem y_apply (r : Fin 4096) (j : Fin 768) : k0_pay3 (F := Ideal) x xs w ws (ix3 0 r j) = argRow x xs w ws r j := by
  pointwise [k0_pay3]
  rfl

end

/-- The greatest of each row. -/
def rowMax (y : FVec Ideal S1x4096x768 .f32) : FVec Ideal S1x4096 .f32 :=
  multiReduction .maximumf [2] S1x4096 y 0xFF800000#32 reduces_S1x4096x768_S1x4096 (.inl rfl) rfl

theorem rowMax_apply (y : FVec Ideal S1x4096x768 .f32) (r : Fin 4096) :
    rowMax y (ix2 0 r) = Finset.fold max (Ideal.ofBits .f32 0xFF800000#32) (fun j => y (ix3 0 r j)) Finset.univ := by
  pointwise [rowMax]

/-- The greatest of each row over the greatest code. -/
def levels (a : FVec Ideal S1x4096 .f32) : FVec Ideal S1x4096x1 .f32 :=
  mulf (shapeCast S1x4096x1 a shapeCasts_S1x4096_S1x4096x1) (broadcast S1x4096x1 (Scalar.ofBits .f32 0x3B124925#32))

theorem levels_apply (a : FVec Ideal S1x4096 .f32) (r : Fin 4096) :
    levels a (ix3 0 r 0) = a (ix2 0 r) * Ideal.ofBits .f32 0x3B124925#32 := by
  pointwise [levels]

/-- The exponent of each level. -/
def exponents (v : FVec Ideal S1x4096x1 .f32) : FVec Ideal S1x4096x1 .f32 :=
  select (ori (cmpf .olt v (broadcast S1x4096x1 (Scalar.ofBits .f32 0x00800000#32)))
    (cmpf .oeq v (broadcast S1x4096x1 (Scalar.ofBits .f32 0x7F800000#32)))) (broadcast S1x4096x1 (Scalar.ofBits .f32 0x00000000#32))
    (addf (floor (divf (log v) (log (broadcast S1x4096x1 (Scalar.ofBits .f32 0x40000000#32)))))
      (broadcast S1x4096x1 (Scalar.ofBits .f32 0x3F800000#32)))

/-- The least normal f32. -/
theorem ofBits_least : Ideal.ofBits .f32 0x00800000#32 = (((2 : ℝ) ^ (-126 : ℤ) : ℝ) : EReal) := by
  refine (ofBits_field (b := 1) (by norm_num)).trans ?_
  norm_num [fieldValue]

/-- The infinite f32. -/
theorem ofBits_top : Ideal.ofBits .f32 0x7F800000#32 = ⊤ :=
  (ofBits_field (b := 255) (by norm_num)).trans fieldValue_top

theorem ofBits_two : Ideal.ofBits .f32 0x40000000#32 = ((2 : ℝ) : EReal) := by
  refine (ofBits_field (b := 128) (by norm_num)).trans ?_
  norm_num [fieldValue]

theorem ofBits_neg126 : Ideal.ofBits .f32 0xC2FC0000#32 = ((-126 : ℝ) : EReal) := by
  simp [Ideal.ofBits, Ideal.ieee, -EReal.coe_mul, -EReal.coe_neg]
  norm_num

theorem ofBits_127 : Ideal.ofBits .f32 0x42FE0000#32 = ((127 : ℝ) : EReal) := by
  simp [Ideal.ofBits, Ideal.ieee, -EReal.coe_mul, -EReal.coe_neg]
  norm_num

/-- A choice by one condition or another. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

theorem exponents_apply (v : FVec Ideal S1x4096x1 .f32) (r : Fin 4096) :
    exponents v (ix3 0 r 0) = refExponent (v (ix3 0 r 0)) := by
  pointwise [exponents]
  rw [ofBits_least, ofBits_top, ofBits_two]
  refine (select_or _ _ _ _).trans ?_
  rfl

section
variable (x : Vec Ideal S1x4096x3072 .fp8e4m3) (xs : Vec Ideal S1x4096x24 .f32) (w : Vec Ideal S3072x768 .fp8e4m3) (ws : Vec Ideal S24x6 .f32)

theorem pay4_eq : k0_pay4 (F := Ideal) x xs w ws = exponents (levels (rowMax (absf (k0_pay3 x xs w ws)))) := by
  unfold k0_pay4
  rfl

/-- The exponent of row `r`. -/
theorem exponent_apply (r : Fin 4096) :
    k0_pay4 (F := Ideal) x xs w ws (ix3 0 r 0) = refExponent (level (argRow x xs w ws r)) := by
  have h : ∀ j, absf (k0_pay3 (F := Ideal) x xs w ws) (ix3 0 r j) = argRow x xs w ws r j := by
    intro j
    show max (k0_pay3 (F := Ideal) x xs w ws (ix3 0 r j)) (-k0_pay3 (F := Ideal) x xs w ws (ix3 0 r j)) = _
    rw [y_apply]
    exact abs_rowY _ _ _
  rw [pay4_eq, exponents_apply, levels_apply, rowMax_apply]
  simp only [h]
  rfl

theorem pay5_eq : k0_pay5 (F := Ideal) x xs w ws = k0_pay4 x xs w ws := by
  unfold k0_pay5
  rw [View.ld_unit_zero RunValue.hz0, View.ld_unit_zero RunValue.hz1, View.ld_unit_zero RunValue.hz2, View.ld_unit_zero RunValue.hz3]

end

/-- A code from a squared relu and the exponents. -/
theorem pay1_apply (y : FVec Ideal S1x4096x768 .f32) (e : FVec Ideal S1x4096x1 .f32) (r : Fin 4096) (j : Fin 768) :
    k0_pay1 y e (ix2 r j) = codeOf (refPower (0 - e (ix3 0 r 0))) (y (ix3 0 r j)) := by
  pointwise [k0_pay1]
  rw [ofBits_neg126, ofBits_127, ofBits_top]
  rfl

/-- A scale from the exponents. -/
theorem pay2_apply (e : FVec Ideal S1x4096x1 .f32) (q : Fin 8) (p : Fin 4) (l : Fin 128) :
    k0_pay2 e (ix3 q p l) = refPower (e (ix3 0 ⟨512 * q.val + (128 * p.val + l.val), by omega⟩ 0)) := by
  have h : (⟨q.val * 512 + p.val * 128 + l.val, by omega⟩ : Fin 4096) = ⟨512 * q.val + (128 * p.val + l.val), by omega⟩ :=
    Fin.ext (by show q.val * 512 + p.val * 128 + l.val = 512 * q.val + (128 * p.val + l.val); omega)
  rw [← h]
  pointwise [k0_pay2]
  rw [ofBits_neg126, ofBits_127, ofBits_top]
  rfl

section
variable (x : Vec Ideal S1x4096x3072 .fp8e4m3) (xs : Vec Ideal S1x4096x24 .f32) (w : Vec Ideal S3072x768 .fp8e4m3) (ws : Vec Ideal S24x6 .f32)

/-- The reference's codes at an index. -/
theorem codes_at (r : Fin 4096) (j : Fin 768) :
    RunValue.G4 (F := Ideal) x xs w ws (ix2 r j) = codeOf (invOf (argRow x xs w ws r)) (argRow x xs w ws r j) := by
  unfold RunValue.G4
  rw [pay1_apply, pay5_eq, exponent_apply, y_apply]
  rfl

/-- The reference's scales at an index. -/
theorem scales_at (q : Fin 8) (p : Fin 4) (l : Fin 128) :
    RunValue.G5 (F := Ideal) x xs w ws (ix3 q p l)
      = scaleOf (argRow x xs w ws ⟨512 * q.val + (128 * p.val + l.val), by omega⟩) := by
  unfold RunValue.G5
  rw [pay2_apply, pay5_eq, exponent_apply]
  rfl

end

end Cert.ReferenceIdeal.Rows

end
-- ==== Proof.Equation.lean ====
/- The two results of the kernel are the reference's, as arrays of extended reals, whatever the arguments. -/
module

public import proofs.«01_k».proof.Defs
public import proofs.«01_k».proof.Proof.Array
public import proofs.«01_k».proof.Proof.Reference

@[expose] public section

noncomputable section

namespace Cert.SqRelu

open Idealize.ShloMosaic Idealize.ShloMosaic.Pointwise Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The kernel's codes are the reference's codes of the same arguments. -/
theorem codes_eq : Cert.ReferenceIdeal.RunValue.G4 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
    = Cert.KernelIdeal.Value.G4 m c := by
  funext i
  obtain ⟨r, j, rfl⟩ : ∃ (r : Fin 4096) (j : Fin 768), i = ix2 r j := ⟨_, _, eq_ix2 i⟩
  exact (Cert.ReferenceIdeal.Rows.codes_at _ _ _ _ r j).trans (Cert.KernelIdeal.Tile.codes_at m c r j).symm

/-- The kernel's scales are the reference's scales of the same arguments. -/
theorem scales_eq : Cert.ReferenceIdeal.RunValue.G5 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
    = Cert.KernelIdeal.Value.G5 m c := by
  funext i
  obtain ⟨q, p, l, rfl⟩ : ∃ (q : Fin 8) (p : Fin 4) (l : Fin 128), i = ix3 q p l := ⟨_, _, _, eq_ix3 i⟩
  exact (Cert.ReferenceIdeal.Rows.scales_at _ _ _ _ q p l).trans (Cert.KernelIdeal.Tile.scales_at m c q p l).symm

/-- From arguments that agree, the kernel and the reference both end, with the same codes and the same scales. -/
theorem algebraic : algebraic_KernelIdeal_ReferenceIdeal := by
  intro m g m' g' _ hagree
  refine ⟨fun c => Cert.KernelIdeal.Value.G4 m c, fun c => Cert.KernelIdeal.Value.G5 m c, Cert.KernelIdeal.Value.run m g, ?_⟩
  refine (θ_run _ _ _).mono (fun r h c => ?_) (Cert.ReferenceIdeal.RunValue.run m' g')
  obtain ⟨h4, h5, hk⟩ := h c
  refine ⟨h4.trans ?_, h5.trans ?_, hk⟩
  · rw [(hagree c).1, (hagree c).2.1, (hagree c).2.2.1, (hagree c).2.2.2]
    exact codes_eq m c
  · rw [(hagree c).1, (hagree c).2.1, (hagree c).2.2.1, (hagree c).2.2.2]
    exact scales_eq m c

end Cert.SqRelu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, fun m ρ _ => Cert.ReferenceIdeal.Gen.frame m ρ, trivial, Cert.SqRelu.algebraic⟩⟩

end Cert.Proof

end
